-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S80x2048 : Shape := ⟨2, ![80, 2048]⟩
abbrev S80 : Shape := ⟨1, ![80]⟩
abbrev S16 : Shape := ⟨1, ![16]⟩
abbrev S1x80 : Shape := ⟨2, ![1, 80]⟩
abbrev S16384x80 : Shape := ⟨2, ![16384, 80]⟩
abbrev S16x1x80 : Shape := ⟨3, ![16, 1, 80]⟩
abbrev S2048x2048 : Shape := ⟨2, ![2048, 2048]⟩
abbrev S2048x80 : Shape := ⟨2, ![2048, 80]⟩
abbrev S2x1x80 : Shape := ⟨3, ![2, 1, 80]⟩
abbrev S2048 : Shape := ⟨1, ![2048]⟩
abbrev S2048x1 : Shape := ⟨2, ![2048, 1]⟩
abbrev S2x1024x80 : Shape := ⟨3, ![2, 1024, 80]⟩
abbrev S2x80 : Shape := ⟨2, ![2, 80]⟩
abbrev S16x80 : Shape := ⟨2, ![16, 80]⟩

abbrev nBuf : Space → Nat
  | .hbm => 11
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S80x2048, .f32⟩
  | .hbm, ⟨2, _⟩ => ⟨S80, .f32⟩
  | .hbm, ⟨3, _⟩ => ⟨S80x2048, .f32⟩
  | .hbm, ⟨4, _⟩ => ⟨S80, .f32⟩
  | .hbm, ⟨5, _⟩ => ⟨S16, .i32⟩
  | .hbm, ⟨6, _⟩ => ⟨S1x80, .f32⟩
  | .hbm, ⟨7, _⟩ => ⟨S1x80, .f32⟩
  | .hbm, ⟨8, _⟩ => ⟨S16384x80, .f32⟩
  | .hbm, ⟨9, _⟩ => ⟨S16x1x80, .f32⟩
  | .hbm, ⟨10, _⟩ => ⟨S16x80, .f32⟩
  | .local _ .vmem, ⟨0, _⟩ => ⟨S2048x2048, .f32⟩
  | .local _ .vmem, ⟨1, _⟩ => ⟨S2048x2048, .f32⟩
  | .local _ .vmem, ⟨2, _⟩ => ⟨S80x2048, .f32⟩
  | .local _ .vmem, ⟨3, _⟩ => ⟨S80x2048, .f32⟩
  | .local _ .vmem, ⟨4, _⟩ => ⟨S1x80, .f32⟩
  | .local _ .vmem, ⟨5, _⟩ => ⟨S1x80, .f32⟩
  | .local _ .vmem, ⟨6, _⟩ => ⟨S2048x80, .f32⟩
  | .local _ .vmem, ⟨7, _⟩ => ⟨S2048x80, .f32⟩
  | .local _ .vmem, ⟨8, _⟩ => ⟨S2x1x80, .f32⟩
  | .local _ .vmem, ⟨9, _⟩ => ⟨S2x1x80, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S80x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x2048 : Shape := ⟨2, ![16384, 2048]⟩
abbrev S80x2048 : Shape := ⟨2, ![80, 2048]⟩
abbrev S80 : Shape := ⟨1, ![80]⟩
abbrev S16 : Shape := ⟨1, ![16]⟩
abbrev S2048x80 : Shape := ⟨2, ![2048, 80]⟩
abbrev S16384x80 : Shape := ⟨2, ![16384, 80]⟩
abbrev S1x80 : Shape := ⟨2, ![1, 80]⟩
abbrev S16x1024x80 : Shape := ⟨3, ![16, 1024, 80]⟩
abbrev S_ : Shape := ⟨0, ![]⟩
abbrev S16x1024 : Shape := ⟨2, ![16, 1024]⟩
abbrev S16x1024x1 : Shape := ⟨3, ![16, 1024, 1]⟩
abbrev S16x80 : Shape := ⟨2, ![16, 80]⟩
abbrev S16x1x80 : Shape := ⟨3, ![16, 1, 80]⟩

abbrev nBuf : Space → Nat
  | .hbm => 50
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S80x2048, .f32⟩
  | .hbm, ⟨2, _⟩ => ⟨S80, .f32⟩
  | .hbm, ⟨3, _⟩ => ⟨S80x2048, .f32⟩
  | .hbm, ⟨4, _⟩ => ⟨S80, .f32⟩
  | .hbm, ⟨5, _⟩ => ⟨S16, .i32⟩
  | .hbm, ⟨6, _⟩ => ⟨S2048x80, .f32⟩
  | .hbm, ⟨7, _⟩ => ⟨S16384x80, .f32⟩
  | .hbm, ⟨8, _⟩ => ⟨S1x80, .f32⟩
  | .hbm, ⟨9, _⟩ => ⟨S16384x80, .f32⟩
  | .hbm, ⟨10, _⟩ => ⟨S16384x80, .f32⟩
  | .hbm, ⟨11, _⟩ => ⟨S2048x80, .f32⟩
  | .hbm, ⟨12, _⟩ => ⟨S16384x80, .f32⟩
  | .hbm, ⟨13, _⟩ => ⟨S1x80, .f32⟩
  | .hbm, ⟨14, _⟩ => ⟨S16384x80, .f32⟩
  | .hbm, ⟨15, _⟩ => ⟨S16384x80, .f32⟩
  | .hbm, ⟨16, _⟩ => ⟨S16x1024x80, .f32⟩
  | .hbm, ⟨17, _⟩ => ⟨S16x1024x80, .f32⟩
  | .hbm, ⟨18, _⟩ => ⟨S_, .f32⟩
  | .hbm, ⟨19, _⟩ => ⟨S16x1024, .f32⟩
  | .hbm, ⟨20, _⟩ => ⟨S_, .f32⟩
  | .hbm, ⟨21, _⟩ => ⟨S16x1024, .f32⟩
  | .hbm, ⟨22, _⟩ => ⟨S16x1024, .f32⟩
  | .hbm, ⟨23, _⟩ => ⟨S16x1024x1, .f32⟩
  | .hbm, ⟨24, _⟩ => ⟨S16x1024x80, .f32⟩
  | .hbm, ⟨25, _⟩ => ⟨S16x1024x80, .f32⟩
  | .hbm, ⟨26, _⟩ => ⟨S16x1024x80, .f32⟩
  | .hbm, ⟨27, _⟩ => ⟨S_, .f32⟩
  | .hbm, ⟨28, _⟩ => ⟨S16x1024, .f32⟩
  | .hbm, ⟨29, _⟩ => ⟨S16x1024x1, .f32⟩
  | .hbm, ⟨30, _⟩ => ⟨S16x1024x80, .f32⟩
  | .hbm, ⟨31, _⟩ => ⟨S16x1024x80, .f32⟩
  | .hbm, ⟨32, _⟩ => ⟨S_, .f32⟩
  | .hbm, ⟨33, _⟩ => ⟨S16x80, .f32⟩
  | .hbm, ⟨34, _⟩ => ⟨S_, .f32⟩
  | .hbm, ⟨35, _⟩ => ⟨S16x80, .f32⟩
  | .hbm, ⟨36, _⟩ => ⟨S16x80, .f32⟩
  | .hbm, ⟨37, _⟩ => ⟨S16x1x80, .f32⟩
  | .hbm, ⟨38, _⟩ => ⟨S16x1024x80, .f32⟩
  | .hbm, ⟨39, _⟩ => ⟨S16x1024x80, .f32⟩
  | .hbm, ⟨40, _⟩ => ⟨S16x1024x80, .f32⟩
  | .hbm, ⟨41, _⟩ => ⟨S_, .f32⟩
  | .hbm, ⟨42, _⟩ => ⟨S16x80, .f32⟩
  | .hbm, ⟨43, _⟩ => ⟨S16x1x80, .f32⟩
  | .hbm, ⟨44, _⟩ => ⟨S16x1024x80, .f32⟩
  | .hbm, ⟨45, _⟩ => ⟨S16x1024x80, .f32⟩
  | .hbm, ⟨46, _⟩ => ⟨S16x1024x80, .f32⟩
  | .hbm, ⟨47, _⟩ => ⟨S_, .f32⟩
  | .hbm, ⟨48, _⟩ => ⟨S16x80, .f32⟩
  | .hbm, ⟨49, _⟩ => ⟨S16384x80, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Spec.lean ====
/-
  What the weakly supervised detection head computes on ONE bag, index by index over the extended reals, with no reference to
  either program: two linear layers, a softmax over the classes of a row, a softmax over the rows of the bag, their product,
  and the product's sum over the bag.
-/
module

public import Idealize.ShloMosaic.Lib.Pointwise

@[expose] public section

noncomputable section

namespace Cert.Wsdn

open Idealize.ShloMosaic

/-- The greatest value of a finite family, and `-∞` of the empty one. -/
def top {n : ℕ} (f : Fin n → EReal) : EReal := Finset.univ.fold max ⊥ f

/-- The softmax of a finite family, shifted by its greatest value. -/
def softmax {n : ℕ} (f : Fin n → EReal) (i : Fin n) : EReal :=
  Ideal.div (Ideal.exp (f i - top f)) (∑ j : Fin n, Ideal.exp (f j - top f))

/-- A linear layer on row `l` of a bag `X`, for class `c`: `∑ₖ X[l, k] · W[c, k] + b[c]`. -/
def logit (X : Fin 1024 → Fin 2048 → EReal) (W : Fin 80 → Fin 2048 → EReal) (b : Fin 80 → EReal)
    (l : Fin 1024) (c : Fin 80) : EReal :=
  (∑ k : Fin 2048, X l k * W c k) + b c

/-- The score of row `l` of a bag `X` for class `c`: the softmax over the classes of the row's class logits, times the softmax
    over the bag's rows of the class's location logits. -/
def score (X : Fin 1024 → Fin 2048 → EReal) (Wc : Fin 80 → Fin 2048 → EReal) (bc : Fin 80 → EReal)
    (Wl : Fin 80 → Fin 2048 → EReal) (bl : Fin 80 → EReal) (l : Fin 1024) (c : Fin 80) : EReal :=
  softmax (fun c' => logit X Wc bc l c') c * softmax (fun l' => logit X Wl bl l' c) l

/-- The score of a bag `X` for class `c`: the sum of its rows' scores. -/
def bagScore (X : Fin 1024 → Fin 2048 → EReal) (Wc : Fin 80 → Fin 2048 → EReal) (bc : Fin 80 → EReal)
    (Wl : Fin 80 → Fin 2048 → EReal) (bl : Fin 80 → EReal) (c : Fin 80) : EReal :=
  ∑ l : Fin 1024, score X Wc bc Wl bl l c

/-- The place of row `n` in its bag, a bag being 1024 consecutive rows. -/
def place (n : ℕ) : Fin 1024 := ⟨n % 1024, Nat.mod_lt _ (by decide)⟩

/-- The word of the programs' `-∞` denotes `-∞`. -/
theorem ofBits_neg_inf : Ideal.ofBits .f32 0xFF800000#32 = ⊥ := by
  simp [Ideal.ofBits, Ideal.ieee]

/-- The larger of `-∞` and a value is the value. -/
theorem max_neg_inf (a : EReal) : max ⊥ a = a := bot_sup_eq a

end Cert.Wsdn

end
-- ==== Proof.Block.lean ====
/-
  What the kernel's body computes of one grid point's blocks: two bags, 2048 consecutive rows.
-/
module

public import proofs.«01_k».proof.Proof.Gen.KernelIdeal.Skeleton
public import proofs.«01_k».proof.Proof.Spec

@[expose] public section

set_option maxRecDepth 16384

noncomputable section

namespace Cert.Wsdn

open Idealize.ShloMosaic Cert.KernelIdeal Cert.KernelIdeal.Gen

variable (x : FVec Ideal S2048x2048 .f32) (wc : FVec Ideal S80x2048 .f32) (bc : FVec Ideal S1x80 .f32)
  (wl : FVec Ideal S80x2048 .f32) (bl : FVec Ideal S1x80 .f32)

/-- Bag `g` of the block's two. -/
def blockBag (g : Fin 2) (l : Fin 1024) (k : Fin 2048) : EReal :=
  x (ix2 ⟨g.val * 1024 + l.val, by have := g.isLt; have := l.isLt; omega⟩ k)

/-- The bag of the block that its row `r` belongs to. -/
def bagOf (r : Fin 2048) : Fin 2 := ⟨r.val / 1024, by have := r.isLt; omega⟩

/-- The first payload, read at row `r` and class `c`: the score of that row of its bag. -/
theorem rows_apply (r : Fin 2048) (c : Fin 80) :
    k0_pay1 (F := Ideal) x wc bc wl bl (ix2 r c)
      = score (blockBag x (bagOf r)) (fun c k => wc (ix2 c k)) (fun c => bc (ix2 0 c))
          (fun c k => wl (ix2 c k)) (fun c => bl (ix2 0 c)) (place r.val) c := by
  pointwise [k0_pay1]
  simp only [score, softmax, top, logit, blockBag, bagOf, place, ofBits_neg_inf, Nat.div_add_mod', Fin.eta]

/-- The second payload, read at bag `g` and class `c`: the score of that bag. -/
theorem bags_apply (g : Fin 2) (c : Fin 80) :
    k0_pay2 (F := Ideal) x wc bc wl bl (ix3 g 0 c)
      = bagScore (blockBag x g) (fun c k => wc (ix2 c k)) (fun c => bc (ix2 0 c))
          (fun c k => wl (ix2 c k)) (fun c => bl (ix2 0 c)) c := by
  pointwise [k0_pay2]
  unfold bagScore
  refine Finset.sum_congr rfl fun l _ => ?_
  rw [rows_apply]
  have hg : bagOf ⟨g.val * 1024 + l.val, by have := g.isLt; have := l.isLt; omega⟩ = g :=
    Fin.ext (show (g.val * 1024 + l.val) / 1024 = g.val by have := l.isLt; omega)
  have hl : place (g.val * 1024 + l.val) = l :=
    Fin.ext (show (g.val * 1024 + l.val) % 1024 = l.val by have := l.isLt; omega)
  rw [hg, hl]

end Cert.Wsdn

end
-- ==== Proof.Final.lean ====
/-
  What the kernel leaves in its two output arrays, index by index, from its arguments.
-/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.Wsdn

open Idealize.ShloMosaic Idealize.ShloMosaic.TcCoe Idealize.SL.Sem Cert.KernelIdeal Cert.KernelIdeal.Gen
open Idealize.ShloMosaic.Pipeline (Dat)

/-- Bag `g` of the 16. -/
def kbag (x : FVec Ideal S16384x2048 .f32) (g : Fin 16) (l : Fin 1024) (k : Fin 2048) : EReal :=
  x (ix2 ⟨g.val * 1024 + l.val, by have := g.isLt; have := l.isLt; omega⟩ k)

variable (x : FVec Ideal S16384x2048 .f32) (wc : FVec Ideal S80x2048 .f32) (bc : FVec Ideal S80 .f32)
  (wl : FVec Ideal S80x2048 .f32) (bl : FVec Ideal S80 .f32)

/-- The scores of all rows. -/
def allRows : FVec Ideal S16384x80 .f32 := fun i =>
  score (kbag x ⟨(i 0).val / 1024, by have : (i 0).val < 16384 := (i 0).isLt; omega⟩) (fun c k => wc (ix2 c k)) (fun c => bc (ix1 c))
    (fun c k => wl (ix2 c k)) (fun c => bl (ix1 c)) (place (i 0).val) (i 1)

/-- The scores of all bags, as the grid writes them. -/
def allBags : FVec Ideal S16x1x80 .f32 := fun i =>
  bagScore (kbag x (i 0)) (fun c k => wc (ix2 c k)) (fun c => bc (ix1 c))
    (fun c k => wl (ix2 c k)) (fun c => bl (ix1 c)) (i 2)

/-- The blocks' places at each point of the grid. -/
theorem places : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0, 0] :=
  (by decide +kernel : ∀ t : Fin grid0.N, _)

section
variable (m : (ℓ : Loc nD τ sig) → Buf (Elt Ideal) ℓ) (c : Dev nD) (t : Fin cfg0.N)

/-- The class weights' block is the whole array. -/
theorem wc_read : iblk m c 1 t = m ((c : Thread nD τ).loc main_arg1) := by
  blk_ext! [iblk, V, places t]

/-- The location weights' block is the whole array. -/
theorem wl_read : iblk m c 2 t = m ((c : Thread nD τ).loc main_arg3) := by
  blk_ext! [iblk, V, places t]

/-- The class bias's block at a class. -/
theorem bc_read (j : Fin 80) : iblk m c 3 t (ix2 0 j) = m ((c : Thread nD τ).loc main_arg2) (ix1 j) := by
  have hb : iblk m c 3 t = V m c main_v0 := by
    funext y
    unfold iblk
    blk_ext [places t]
  rw [hb]
  simp only [V, V0, hostOps0, List.flatten_cons, List.flatten_nil, List.append_nil]
  entry_read
  pointwise

/-- The location bias's block at a class. -/
theorem bl_read (j : Fin 80) : iblk m c 4 t (ix2 0 j) = m ((c : Thread nD τ).loc main_arg4) (ix1 j) := by
  have hb : iblk m c 4 t = V m c main_v1 := by
    funext y
    unfold iblk
    blk_ext [places t]
  rw [hb]
  simp only [V, V0, hostOps0, List.flatten_cons, List.flatten_nil, List.append_nil]
  entry_read
  pointwise

/-- The two bags of a block among the 16. -/
theorem bag_read (g : Fin 2) (n : Fin 16) (h : n.val = t.val * 2 + g.val) :
    blockBag (iblk m c 0 t) g = kbag (m ((c : Thread nD τ).loc main_arg0)) n := by
  funext l k
  unfold blockBag kbag
  blk_ext! [iblk, V, places t]

/-- The array of the rows' scores after the run. -/
theorem rows_final : (dats m 0 c).arrAt 5 cfg0.N = allRows (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 5 _ (by decide +kernel) fun t hf y => ?_
  blk_simp
  rw [after0_5]
  frame_out
  idx_vars y
  rw [rows_apply, show ((View.whole main_v2_0).slice (win0_5.rect t)).emb (ix2 y0 y1)
    = ix2 ⟨t.val * 2048 + y0.val, by have := y0.isLt; have : t.val < 8 := t.isLt; omega⟩ y1 from by
      blk_ext [places t]]
  have ht : t.val < 8 := t.isLt
  have h0 := y0.isLt
  rw [wc_read, wl_read, bag_read m c t (bagOf y0) ⟨(t.val * 2048 + y0.val) / 1024, by omega⟩
    (show (t.val * 2048 + y0.val) / 1024 = t.val * 2 + y0.val / 1024 by omega)]
  simp only [bc_read, bl_read]
  have hp : place y0.val = place (t.val * 2048 + y0.val) :=
    Fin.ext (show y0.val % 1024 = (t.val * 2048 + y0.val) % 1024 by omega)
  rw [hp]
  rfl

/-- The array of the bags' scores after the run. -/
theorem bags_final : (dats m 0 c).arrAt 6 cfg0.N = allBags (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 6 _ (by decide +kernel) fun t hf y => ?_
  blk_simp
  rw [after0_6]
  frame_out
  idx_vars y
  obtain rfl : y1 = 0 := Subsingleton.elim _ _
  have ht : t.val < 8 := t.isLt
  have h0 := y0.isLt
  rw [bags_apply, show ((View.whole main_v2_1).slice (win0_6.rect t)).emb (ix3 y0 0 y2)
    = ix3 ⟨t.val * 2 + y0.val, by omega⟩ 0 y2 from by
      blk_ext [places t]]
  rw [wc_read, wl_read, bag_read m c t y0 ⟨t.val * 2 + y0.val, by omega⟩ rfl]
  simp only [bc_read, bl_read]
  rfl

/-- The host's reshape after the grid: the second result is the array of the bags' scores without its middle axis. -/
theorem bags_tail : Pipeline.afterTail₀ cfgs (dats m) 0 (V0 m) [hostOps1] c main_v3
    = shapeCast S16x80 ((dats m 0 c).arrAt 6 cfg0.N) shapeCasts_S16x1x80_S16x80 := by
  unfold Pipeline.afterTail₀
  simp only [hostOps1, List.flatten_cons, List.flatten_nil, List.append_nil]
  after_results
  exact congrArg (fun A => shapeCast S16x80 A shapeCasts_S16x1x80_S16x80)
    (Pipeline.withArrays_arr spec0 launch0.win.arr_inj c (V0 m c) (fun w => (dats m 0 c).arrAt w cfg0.N) 6)

end

end Cert.Wsdn

end
-- ==== Proof.Ref.lean ====
/-
  What the reference computes, index by index: of each of its 16 bags the scores of the bag's rows and their sum.
-/
module

public import proofs.«01_k».proof.Proof.Gen.ReferenceIdeal.Run
public import proofs.«01_k».proof.Proof.Spec

@[expose] public section

set_option maxRecDepth 16384

noncomputable section

namespace Cert.Wsdn

open Idealize.ShloMosaic Idealize.SL.Sem Cert.ReferenceIdeal Cert.ReferenceIdeal.Gen

/-- A linear layer on all rows, its rows then split into bags. -/
def refLogits (x : FVec Ideal S16384x2048 .f32) (w : FVec Ideal S80x2048 .f32) (b : FVec Ideal S80 .f32) :
    FVec Ideal S16x1024x80 .f32 :=
  shapeCast S16x1024x80 (addf
      (Host.dotGeneral dot_S16384x2048_S2048x80_S16384x80_1_0_0_1_n_n none x
        (transpose S2048x80 [1, 0] w transposes_S80x2048_S2048x80_1_0))
      (broadcastInDim S16384x80 ![0, 1] bcast_S1x80_S16384x80_0_1 (broadcastInDim S1x80 ![1] bcast_S80_S1x80_1 b)))
    shapeCasts_S16384x80_S16x1024x80

/-- The exponentials of the class logits, each row's shifted by its greatest. -/
def refClsExp (z : FVec Ideal S16x1024x80 .f32) : FVec Ideal S16x1024x80 .f32 :=
  Host.exp (subf z (broadcastInDim S16x1024x80 ![0, 1, 2] bcast_S16x1024x1_S16x1024x80_0_1_2
    (broadcastInDim S16x1024x1 ![0, 1] bcast_S16x1024_S16x1024x1_0_1
      (maximumf (broadcastInDim S16x1024 ![] bcast_S_S16x1024 (constant S_ .f32 0xFF800000#32))
        (Host.reduce FloatOps.maximumf z (constant S_ .f32 0xFF800000#32) reducesTo_S16x1024x80_S16x1024_d2 h_S_)))))

/-- A row's exponentials over their sum. -/
def refClsNorm (e : FVec Ideal S16x1024x80 .f32) : FVec Ideal S16x1024x80 .f32 :=
  Host.divf e (broadcastInDim S16x1024x80 ![0, 1, 2] bcast_S16x1024x1_S16x1024x80_0_1_2
    (broadcastInDim S16x1024x1 ![0, 1] bcast_S16x1024_S16x1024x1_0_1
      (Host.reduceAdd e (constant S_ .f32 0x00000000#32) reducesTo_S16x1024x80_S16x1024_d2 h_S_)))

/-- The exponentials of the location logits, each bag's shifted by its greatest of the class. -/
def refLocExp (z : FVec Ideal S16x1024x80 .f32) : FVec Ideal S16x1024x80 .f32 :=
  Host.exp (subf z (broadcastInDim S16x1024x80 ![0, 1, 2] bcast_S16x1x80_S16x1024x80_0_1_2
    (broadcastInDim S16x1x80 ![0, 2] bcast_S16x80_S16x1x80_0_2
      (maximumf (broadcastInDim S16x80 ![] bcast_S_S16x80 (constant S_ .f32 0xFF800000#32))
        (Host.reduce FloatOps.maximumf z (constant S_ .f32 0xFF800000#32) reducesTo_S16x1024x80_S16x80_d1 h_S_)))))

/-- A bag's exponentials over their sum. -/
def refLocNorm (e : FVec Ideal S16x1024x80 .f32) : FVec Ideal S16x1024x80 .f32 :=
  Host.divf e (broadcastInDim S16x1024x80 ![0, 1, 2] bcast_S16x1x80_S16x1024x80_0_1_2
    (broadcastInDim S16x1x80 ![0, 2] bcast_S16x80_S16x1x80_0_2
      (Host.reduceAdd e (constant S_ .f32 0x00000000#32) reducesTo_S16x1024x80_S16x80_d1 h_S_)))

/-- The scores, split into bags. -/
def refScores (x : FVec Ideal S16384x2048 .f32) (wc : FVec Ideal S80x2048 .f32) (bc : FVec Ideal S80 .f32)
    (wl : FVec Ideal S80x2048 .f32) (bl : FVec Ideal S80 .f32) : FVec Ideal S16x1024x80 .f32 :=
  mulf (refClsNorm (refClsExp (refLogits x wc bc))) (refLocNorm (refLocExp (refLogits x wl bl)))

/-- The first result: the scores with the bags' rows in one list. -/
def refRows (x : FVec Ideal S16384x2048 .f32) (wc : FVec Ideal S80x2048 .f32) (bc : FVec Ideal S80 .f32)
    (wl : FVec Ideal S80x2048 .f32) (bl : FVec Ideal S80 .f32) : FVec Ideal S16384x80 .f32 :=
  shapeCast S16384x80 (refScores x wc bc wl bl) shapeCasts_S16x1024x80_S16384x80

/-- The second result: the scores summed over each bag. -/
def refBags (x : FVec Ideal S16384x2048 .f32) (wc : FVec Ideal S80x2048 .f32) (bc : FVec Ideal S80 .f32)
    (wl : FVec Ideal S80x2048 .f32) (bl : FVec Ideal S80 .f32) : FVec Ideal S16x80 .f32 :=
  Host.reduceAdd (refScores x wc bc wl bl) (constant S_ .f32 0x00000000#32) reducesTo_S16x1024x80_S16x80_d1 h_S_

/-- The reference's run ends with its first result at `refRows` of its arguments. -/
theorem out0_eq (m : (ℓ : Loc nD τ sig) → Buf (Elt Ideal) ℓ) (c : Dev nD) :
    Value.res_out0 m c = refRows (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v36 refRows refScores refClsNorm refClsExp refLocNorm refLocExp refLogits
  rfl

/-- The reference's run ends with its second result at `refBags` of its arguments. -/
theorem out1_eq (m : (ℓ : Loc nD τ sig) → Buf (Elt Ideal) ℓ) (c : Dev nD) :
    Value.res_out1 m c = refBags (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out1 Value.res_main_v35 refBags refScores refClsNorm refClsExp refLocNorm refLocExp refLogits
  rfl

variable (x : FVec Ideal S16384x2048 .f32) (wc : FVec Ideal S80x2048 .f32) (bc : FVec Ideal S80 .f32)
  (wl : FVec Ideal S80x2048 .f32) (bl : FVec Ideal S80 .f32)

/-- Bag `g` of the 16. -/
def bag (g : Fin 16) (l : Fin 1024) (k : Fin 2048) : EReal :=
  x (ix2 ⟨g.val * 1024 + l.val, by have := g.isLt; have := l.isLt; omega⟩ k)

/-- The logit of row `l` of bag `g`. -/
theorem refLogits_apply (w : FVec Ideal S80x2048 .f32) (b : FVec Ideal S80 .f32) (g : Fin 16) (l : Fin 1024) (c : Fin 80) :
    refLogits x w b (ix3 g l c) = logit (bag x g) (fun c k => w (ix2 c k)) (fun c => b (ix1 c)) l c := by
  pointwise [refLogits]
  rfl

/-- A row's softmax over the classes. -/
theorem refCls_apply (z : FVec Ideal S16x1024x80 .f32) (g : Fin 16) (l : Fin 1024) (c : Fin 80) :
    refClsNorm (refClsExp z) (ix3 g l c) = softmax (fun c' => z (ix3 g l c')) c := by
  pointwise [refClsNorm, refClsExp]
  simp only [softmax, top, ofBits_neg_inf, max_neg_inf]

/-- A class's softmax over the rows of a bag. -/
theorem refLoc_apply (z : FVec Ideal S16x1024x80 .f32) (g : Fin 16) (l : Fin 1024) (c : Fin 80) :
    refLocNorm (refLocExp z) (ix3 g l c) = softmax (fun l' => z (ix3 g l' c)) l := by
  pointwise [refLocNorm, refLocExp]
  simp only [softmax, top, ofBits_neg_inf, max_neg_inf]

/-- The scores at row `l` of bag `g`. -/
theorem refScores_apply (g : Fin 16) (l : Fin 1024) (c : Fin 80) :
    refScores x wc bc wl bl (ix3 g l c)
      = score (bag x g) (fun c k => wc (ix2 c k)) (fun c => bc (ix1 c)) (fun c k => wl (ix2 c k)) (fun c => bl (ix1 c)) l c := by
  pointwise [refScores]
  simp only [refCls_apply, refLoc_apply, refLogits_apply, score]

/-- The first result at row `n`, class `c`: the score of row `n % 1024` of bag `n / 1024`. -/
theorem refRows_apply (n : Fin 16384) (c : Fin 80) :
    refRows x wc bc wl bl (ix2 n c)
      = score (bag x ⟨n.val / 1024, by have := n.isLt; omega⟩) (fun c k => wc (ix2 c k)) (fun c => bc (ix1 c))
          (fun c k => wl (ix2 c k)) (fun c => bl (ix1 c)) (place n.val) c := by
  pointwise [refRows]
  exact refScores_apply ..

/-- The second result at bag `g`, class `c`: the score of that bag. -/
theorem refBags_apply (g : Fin 16) (c : Fin 80) :
    refBags x wc bc wl bl (ix2 g c)
      = bagScore (bag x g) (fun c k => wc (ix2 c k)) (fun c => bc (ix1 c)) (fun c k => wl (ix2 c k)) (fun c => bl (ix1 c)) c := by
  pointwise [refBags]
  simp only [refScores_apply, bagScore]

end Cert.Wsdn

end
-- ==== Proof.lean ====
/-
  The certificate of the two-headed bag scores: the three programs keep their arguments, the idealized kernel is the kernel
  at the ideal values, and it computes what the reference computes, in both results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Ref
public import Idealize.ShloMosaic.Lib.Quiescent
public import Idealize.ShloMosaic.Lib.Claim
public import Idealize.ShloMosaic.Lib.Pointwise
public import Idealize.ShloMosaic.Adequacy
public import Idealize.ShloMosaic.Init

@[expose] public section

noncomputable section

namespace Cert.Proof

open Idealize.ShloMosaic Idealize.SL.Sem Cert.Wsdn

/-- The rows' scores the kernel computes are the reference's. -/
theorem rows_eq (x : FVec Ideal Cert.KernelIdeal.S16384x2048 .f32) (wc : FVec Ideal Cert.KernelIdeal.S80x2048 .f32)
    (bc : FVec Ideal Cert.KernelIdeal.S80 .f32) (wl : FVec Ideal Cert.KernelIdeal.S80x2048 .f32)
    (bl : FVec Ideal Cert.KernelIdeal.S80 .f32) : allRows x wc bc wl bl = refRows x wc bc wl bl := by
  funext i
  idx_vars i
  exact (refRows_apply x wc bc wl bl i0 i1).symm

/-- The bags' scores the kernel computes, one list per bag, are the reference's. -/
theorem bags_eq (x : FVec Ideal Cert.KernelIdeal.S16384x2048 .f32) (wc : FVec Ideal Cert.KernelIdeal.S80x2048 .f32)
    (bc : FVec Ideal Cert.KernelIdeal.S80 .f32) (wl : FVec Ideal Cert.KernelIdeal.S80x2048 .f32)
    (bl : FVec Ideal Cert.KernelIdeal.S80 .f32) (h : Cert.KernelIdeal.S16x1x80.ShapeCasts Cert.KernelIdeal.S16x80) :
    shapeCast Cert.KernelIdeal.S16x80 (allBags x wc bc wl bl) h = refBags x wc bc wl bl := by
  funext i
  idx_vars i
  rw [refBags_apply]
  pointwise [allBags]
  rfl

/-- The reference keeps its arguments. -/
theorem frame_reference : Cert.quiescent_ReferenceIdeal := by
  intro m g _
  exact (θ_run Cert.ReferenceIdeal.defs _ _).mono
    (fun r h => ⟨fun c => (h c).2.2, sem_eq_zero_of_no_sems (by decide) r.2⟩)
    (Cert.ReferenceIdeal.Value.run (F := Ideal) m g)

/-- The kernel and the reference end with the same two results. -/
theorem algebraic : Cert.algebraic_KernelIdeal_ReferenceIdeal := by
  pair_intro
  · run_from Cert.KernelIdeal.Gen.run_main m g & Cert.KernelIdeal.Gen.unchanged m g
  · run_from Cert.ReferenceIdeal.Value.run m' g'
    · obtain ⟨h0, h1, h2, h3, h4, _⟩ := hagree c
      refine (out0_eq m' c).trans ?_
      rw [h0, h1, h2, h3, h4]
      exact (rows_eq ..).symm.trans (rows_final m c).symm
    · obtain ⟨h0, h1, h2, h3, h4, _⟩ := hagree c
      refine (out1_eq m' c).trans ?_
      rw [h0, h1, h2, h3, h4, bags_tail, bags_final, bags_eq]

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
